-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4x2048x1 : Shape := ⟨3, ![4, 2048, 1]⟩
abbrev S2304x4096 : Shape := ⟨2, ![2304, 4096]⟩
abbrev S2304 : Shape := ⟨1, ![2304]⟩
abbrev S8192x4096 : Shape := ⟨2, ![8192, 4096]⟩
abbrev S8192x1 : Shape := ⟨2, ![8192, 1]⟩
abbrev S1x2304 : Shape := ⟨2, ![1, 2304]⟩
abbrev S8192x2304 : Shape := ⟨2, ![8192, 2304]⟩
abbrev S512x4096 : Shape := ⟨2, ![512, 4096]⟩
abbrev S512x1 : Shape := ⟨2, ![512, 1]⟩
abbrev S512x2304 : Shape := ⟨2, ![512, 2304]⟩
abbrev S512 : Shape := ⟨1, ![512]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x4096, .fp8e4m3⟩
  | .hbm, ⟨1, _⟩ => ⟨S4x2048x1, .f32⟩
  | .hbm, ⟨2, _⟩ => ⟨S2304x4096, .fp8e4m3⟩
  | .hbm, ⟨3, _⟩ => ⟨S2304, .f32⟩
  | .hbm, ⟨4, _⟩ => ⟨S8192x4096, .fp8e4m3⟩
  | .hbm, ⟨5, _⟩ => ⟨S8192x1, .f32⟩
  | .hbm, ⟨6, _⟩ => ⟨S1x2304, .f32⟩
  | .hbm, ⟨7, _⟩ => ⟨S8192x1, .f32⟩
  | .hbm, ⟨8, _⟩ => ⟨S8192x2304, .fp8e4m3⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S2304x4096, .fp8e4m3⟩
  | .local _ .vmem, ⟨5, _⟩ => ⟨S1x2304, .f32⟩
  | .local _ .vmem, ⟨6, _⟩ => ⟨S512x1, .f32⟩
  | .local _ .vmem, ⟨7, _⟩ => ⟨S512x1, .f32⟩
  | .local _ .vmem, ⟨8, _⟩ => ⟨S512x2304, .fp8e4m3⟩
  | .local _ .vmem, ⟨9, _⟩ => ⟨S512x2304, .fp8e4m3⟩
  | _, _ => ⟨S4x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x4096 : Shape := ⟨3, ![4, 2048, 4096]⟩
abbrev S4x2048x1 : Shape := ⟨3, ![4, 2048, 1]⟩
abbrev S2304x4096 : Shape := ⟨2, ![2304, 4096]⟩
abbrev S2304 : Shape := ⟨1, ![2304]⟩
abbrev S8192x4096 : Shape := ⟨2, ![8192, 4096]⟩
abbrev S8192x1 : Shape := ⟨2, ![8192, 1]⟩
abbrev S1x2304 : Shape := ⟨2, ![1, 2304]⟩
abbrev S8192x2304 : Shape := ⟨2, ![8192, 2304]⟩
abbrev S8192 : Shape := ⟨1, ![8192]⟩
abbrev S1x254 : Shape := ⟨2, ![1, 254]⟩
abbrev S8192x254 : Shape := ⟨2, ![8192, 254]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x4096, .fp8e4m3⟩
  | .hbm, ⟨1, _⟩ => ⟨S4x2048x1, .f32⟩
  | .hbm, ⟨2, _⟩ => ⟨S2304x4096, .fp8e4m3⟩
  | .hbm, ⟨3, _⟩ => ⟨S2304, .f32⟩
  | .hbm, ⟨4, _⟩ => ⟨S8192x4096, .fp8e4m3⟩
  | .hbm, ⟨5, _⟩ => ⟨S8192x1, .f32⟩
  | .hbm, ⟨6, _⟩ => ⟨S1x2304, .f32⟩
  | .hbm, ⟨7, _⟩ => ⟨S8192x1, .f32⟩
  | .hbm, ⟨8, _⟩ => ⟨S8192x2304, .fp8e4m3⟩
  | .local _ .vmem, ⟨0, _⟩ => ⟨S8192x4096, .fp8e4m3⟩
  | .local _ .vmem, ⟨1, _⟩ => ⟨S8192x1, .f32⟩
  | .local _ .vmem, ⟨2, _⟩ => ⟨S2304x4096, .fp8e4m3⟩
  | .local _ .vmem, ⟨3, _⟩ => ⟨S1x2304, .f32⟩
  | .local _ .vmem, ⟨4, _⟩ => ⟨S8192x1, .f32⟩
  | .local _ .vmem, ⟨5, _⟩ => ⟨S8192x2304, .fp8e4m3⟩
  | _, _ => ⟨S4x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2304 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Powers.lean ====
/- The powers of two as words. The kernel writes the float `2 ^ (c - 127)` by putting the integer `c` (0 … 255) in the exponent field
   of a 32-bit word (`power c`); the reference writes it with `exp2` and two guards (`twoTo`). Here: what `power c` denotes over
   the extended reals, that it increases strictly with `c`, and that the two ways of writing `2 ^ e` agree for every exponent
   a scale can have. -/
module

public import Idealize.ShloMosaic.PureOps.Ideal.Laws
public import Idealize.ShloMosaic.Lib.Pipeline.ValueKit

@[expose] public section

set_option maxRecDepth 16384

noncomputable section

namespace Cert.Quantise

open Idealize.ShloMosaic

/-- What the word with exponent field `e` and every other bit zero denotes. -/
def fieldWord (e : BitVec 32) : EReal := Ideal.ofBits .f32 (IntOp.shli .vector e 23#32)

/-- `fieldWord` of the natural number `c`. -/
def power (c : ℕ) : EReal := fieldWord (BitVec.ofNat 32 c)

/-- The three fields of the word: sign 0, exponent field `c`, significand 0. -/
theorem fields : ∀ c : Fin 256,
    (IntOp.shli .vector (BitVec.ofNat 32 c.val) 23#32).extractLsb' 31 1 = 0#1
    ∧ ((IntOp.shli .vector (BitVec.ofNat 32 c.val) 23#32).extractLsb' 23 8).toNat = c.val
    ∧ ((IntOp.shli .vector (BitVec.ofNat 32 c.val) 23#32).extractLsb' 0 23).toNat = 0 := by
  intro c
  have h : IntOp.shli .vector (BitVec.ofNat 32 c.val) 23#32 = BitVec.ofNat 32 c.val <<< 23#32 := rfl
  rw [h]
  revert c
  decide +kernel

/-- The word with exponent field zero is `0`. -/
theorem power_zero : power 0 = 0 := by
  obtain ⟨h1, h2, h3⟩ := fields 0
  simp only [Fin.val_zero] at h1 h2 h3
  simp [power, fieldWord, Ideal.ofBits, Ideal.ieee, h1, h2, h3]

/-- The word with every exponent bit set is `+∞`. -/
theorem power_top : power 255 = ⊤ := by
  obtain ⟨h1, h2, h3⟩ := fields 255
  have e : ((255 : Fin 256) : ℕ) = 255 := rfl
  rw [e] at h1 h2 h3
  simp [power, fieldWord, Ideal.ofBits, Ideal.ieee, h1, h2, h3]

/-- In between the word is `2 ^ (c - 127)`. -/
theorem power_mid (c : ℕ) (h0 : 1 ≤ c) (h1 : c ≤ 254) : power c = (((2 : ℝ) ^ ((c : ℤ) - 127) : ℝ) : EReal) := by
  obtain ⟨e1, e2, e3⟩ := fields ⟨c, by omega⟩
  dsimp only at e1 e2 e3
  have n1 : ¬ c = 255 := by omega
  have n0 : ¬ c = 0 := by omega
  have e : (8388608 : ℝ) * (2 : ℝ) ^ ((c : ℤ) - 127 - 23) = (2 : ℝ) ^ ((c : ℤ) - 127) := by
    rw [show (8388608 : ℝ) = 2 ^ (23 : ℕ) by norm_num, ← zpow_natCast, ← zpow_add₀ (two_ne_zero), show ((23 : ℕ) : ℤ) + ((c : ℤ) - 127 - 23) = (c : ℤ) - 127 by omega]
  rw [← e]
  simp [power, fieldWord, Ideal.ofBits, Ideal.ieee, e1, e2, e3, n0, n1]

/-- One step up is strictly larger. -/
theorem power_lt_succ (c : ℕ) (h : c < 255) : power c < power (c + 1) := by
  rcases Nat.eq_zero_or_pos c with rfl | h0
  · rw [power_zero, power_mid 1 le_rfl (by omega)]
    exact_mod_cast zpow_pos (by norm_num : (0 : ℝ) < 2) _
  · rcases Nat.lt_or_ge c 254 with h2 | h2
    · rw [power_mid c h0 (by omega), power_mid (c + 1) (by omega) (by omega)]
      exact EReal.coe_lt_coe_iff.mpr (zpow_lt_zpow_right₀ (by norm_num : (1 : ℝ) < 2) (by omega))
    · have e : c = 254 := by omega
      subst e
      rw [power_top, power_mid 254 (by omega) (by omega)]
      exact EReal.coe_lt_top _

/-- So a larger field is a larger number. -/
theorem power_le (a b : ℕ) (hab : a ≤ b) (hb : b ≤ 255) : power a ≤ power b := by
  induction b, hab using Nat.le_induction with
  | base => exact le_rfl
  | succ n hn ih => exact (ih (by omega)).trans (power_lt_succ n (by omega)).le

/-- `exp2` of an integer, read over the extended reals, is the power of two. -/
theorem exp2_int (z : ℤ) : Ideal.exp2 ((z : ℝ) : EReal) = (((2 : ℝ) ^ z : ℝ) : EReal) := by
  rw [Ideal.exp2_coe]
  congr 1
  exact Real.rpow_intCast 2 z

/-- `2 ^ e` as the kernel writes it: `e + 127`, kept in 0 … 255, as the exponent field. -/
def pow2 (e : BitVec 32) : EReal := fieldWord (IntOp.minsi 255#32 (IntOp.maxsi 0#32 (IntOp.addi e 127#32)))

/-- `2 ^ e` as the reference writes it: zero below the smallest normal exponent, infinite above the largest one. -/
def twoTo (e : BitVec 32) : EReal :=
  Scalar.select (IntOp.cmpi .slt e 4294967170#32) (Ideal.ofBits .f32 0x00000000#32)
    (Scalar.select (IntOp.cmpi .sgt e 127#32) (Ideal.ofBits .f32 0x7F800000#32) (Ideal.exp2 ((e.toInt : ℝ) : EReal)))

/-- The exponent `c - 126` (`c` the exponent field of the quotient) and its negative: their clipped fields, their values as
    integers, and on which side of the guards they fall. -/
theorem exponent_facts : ∀ c : Fin 255, c.val = 0 ∨
    (IntOp.minsi 255#32 (IntOp.maxsi 0#32 (IntOp.addi (IntOp.subi (BitVec.ofNat 32 c.val) 126#32) 127#32)) = BitVec.ofNat 32 (c.val + 1)
    ∧ IntOp.minsi 255#32 (IntOp.maxsi 0#32 (IntOp.addi (IntOp.subi 0#32 (IntOp.subi (BitVec.ofNat 32 c.val) 126#32)) 127#32))
        = BitVec.ofNat 32 (253 - c.val)
    ∧ (IntOp.subi (BitVec.ofNat 32 c.val) 126#32).toInt = (c.val : ℤ) - 126
    ∧ (IntOp.subi 0#32 (IntOp.subi (BitVec.ofNat 32 c.val) 126#32)).toInt = 126 - (c.val : ℤ)
    ∧ IntOp.cmpi .slt (IntOp.subi (BitVec.ofNat 32 c.val) 126#32) 4294967170#32 = 0#1
    ∧ IntOp.cmpi .sgt (IntOp.subi (BitVec.ofNat 32 c.val) 126#32) 127#32 = BitVec.ofBool (decide (c.val = 254))
    ∧ IntOp.cmpi .slt (IntOp.subi 0#32 (IntOp.subi (BitVec.ofNat 32 c.val) 126#32)) 4294967170#32 = BitVec.ofBool (decide (253 ≤ c.val))
    ∧ IntOp.cmpi .sgt (IntOp.subi 0#32 (IntOp.subi (BitVec.ofNat 32 c.val) 126#32)) 127#32 = 0#1) := by
  decide +kernel

theorem ofBits_inf : Ideal.ofBits .f32 0x7F800000#32 = ⊤ := by simp [Ideal.ofBits, Ideal.ieee]

/-- The two spellings of the scale agree. -/
theorem pow2_eq (c : ℕ) (h0 : 1 ≤ c) (h1 : c ≤ 254) :
    pow2 (IntOp.subi (BitVec.ofNat 32 c) 126#32) = twoTo (IntOp.subi (BitVec.ofNat 32 c) 126#32) := by
  obtain h | ⟨e1, -, e3, -, e5, e6, -, -⟩ := exponent_facts ⟨c, by omega⟩
  · exact absurd h (by dsimp only; omega)
  dsimp only at e1 e3 e5 e6
  unfold pow2 twoTo
  rw [e1, e3, e5, e6, ofBits_inf, exp2_int]
  show power (c + 1) = _
  rcases Nat.lt_or_ge c 254 with h2 | h2
  · rw [power_mid (c + 1) (by omega) (by omega)]
    have n : ¬ c = 254 := by omega
    have e : ((c + 1 : ℕ) : ℤ) - 127 = (c : ℤ) - 126 := by push_cast; ring
    rw [e]
    simp [Scalar.select, n]
  · have e : c = 254 := by omega
    subst e
    rw [power_top]
    simp [Scalar.select]

/-- The two spellings of the scale's inverse agree. -/
theorem pow2_neg_eq (c : ℕ) (h0 : 1 ≤ c) (h1 : c ≤ 254) :
    pow2 (IntOp.subi 0#32 (IntOp.subi (BitVec.ofNat 32 c) 126#32)) = twoTo (IntOp.subi 0#32 (IntOp.subi (BitVec.ofNat 32 c) 126#32)) := by
  obtain h | ⟨-, e2, -, e4, -, -, e7, e8⟩ := exponent_facts ⟨c, by omega⟩
  · exact absurd h (by dsimp only; omega)
  dsimp only at e2 e4 e7 e8
  unfold pow2 twoTo
  rw [e2, e4, e7, e8, Ideal.ofBits_zero_f32, exp2_int]
  show power (253 - c) = _
  rcases Nat.lt_or_ge c 253 with h2 | h2
  · rw [power_mid (253 - c) (by omega) (by omega)]
    have n : ¬ 253 ≤ c := by omega
    have e : ((253 - c : ℕ) : ℤ) - 127 = 126 - (c : ℤ) := by omega
    rw [e]
    simp [Scalar.select, n]
  · have e : 253 - c = 0 := by omega
    rw [e, power_zero]
    simp [Scalar.select, h2]

end Cert.Quantise

end
-- ==== Proof.Exponent.lean ====
/- The exponent of a row's scale. The kernel finds the exponent field of the quotient `t` by a binary search over the fields 0 … 255,
   most significant bit first, each step one comparison with a power of two; the reference counts the normal powers of two that
   `t` reaches. Both then turn a zero field and an infinite quotient into exponent 0. Here: for `0 ≤ t` the two agree, and the
   exponent they find is `c - 126` with `c` between 1 and 254. -/
module

public import proofs.«01_k».proof.Proof.Powers
public import Idealize.ShloMosaic.Lib.IndicatorCount

@[expose] public section

set_option maxRecDepth 16384

noncomputable section

namespace Cert.Quantise

open Idealize.ShloMosaic

/-- One step of the search: take the bit if the number reached is still at most `t`. -/
def step (t : EReal) (bit field : BitVec 32) : BitVec 32 :=
  Scalar.select (Ideal.cmp .oge t (fieldWord (IntOp.addi field bit))) (IntOp.addi field bit) field

/-- The whole search, from field 0. -/
def search (t : EReal) : BitVec 32 :=
  step t 1#32 (step t 2#32 (step t 4#32 (step t 8#32 (step t 16#32 (step t 32#32 (step t 64#32 (step t 128#32 0#32)))))))

/-- The field of `t` lies in the `w` fields from `c`. -/
def Within (t : EReal) (c w : ℕ) : Prop := c + w ≤ 256 ∧ power c ≤ t ∧ (c + w = 256 ∨ t < power (c + w))

/-- A step halves the width. -/
theorem step_within (t : EReal) (b : ℕ) (field : BitVec 32) (h : ∃ c, field = BitVec.ofNat 32 c ∧ Within t c (2 * b)) :
    ∃ c, step t (BitVec.ofNat 32 b) field = BitVec.ofNat 32 c ∧ Within t c b := by
  obtain ⟨c, rfl, hw, hlo, hhi⟩ := h
  have hadd : IntOp.addi (BitVec.ofNat 32 c) (BitVec.ofNat 32 b) = BitVec.ofNat 32 (c + b) := (BitVec.ofNat_add c b).symm
  have hs : step t (BitVec.ofNat 32 b) (BitVec.ofNat 32 c)
      = if power (c + b) ≤ t then BitVec.ofNat 32 (c + b) else BitVec.ofNat 32 c := by
    unfold step
    rw [hadd]
    show Scalar.select (BitVec.ofBool (decide (power (c + b) ≤ t))) _ _ = _
    by_cases hle : power (c + b) ≤ t <;> simp [Scalar.select, hle]
  by_cases hle : power (c + b) ≤ t
  · refine ⟨c + b, by rw [hs, if_pos hle], by omega, hle, ?_⟩
    rw [show c + b + b = c + 2 * b by ring]
    exact hhi
  · exact ⟨c, by rw [hs, if_neg hle], by omega, hlo, Or.inr (not_le.mp hle)⟩

/-- The search finds the field: the largest one whose power of two is at most `t`. -/
theorem search_within (t : EReal) (ht : 0 ≤ t) : ∃ c, search t = BitVec.ofNat 32 c ∧ Within t c 1 := by
  unfold search
  refine step_within t 1 _ (step_within t 2 _ (step_within t 4 _ (step_within t 8 _ (step_within t 16 _
    (step_within t 32 _ (step_within t 64 _ (step_within t 128 _ ⟨0, rfl, ?_⟩)))))))
  exact ⟨le_rfl, by rw [power_zero]; exact ht, Or.inl rfl⟩

/-- How many of the normal powers of two, `2 ^ -126` … `2 ^ 127`, are at most `t`, counted as a word. -/
def count (t : EReal) : BitVec 32 :=
  Finset.fold IntOp.addi 0#32 (fun k : Fin 254 =>
    (Ideal.cmp .oge t (Ideal.exp2 (((IntOp.subi (BitVec.ofNat 32 k.val) 126#32).toInt : ℝ) : EReal))).setWidth 32) Finset.univ

/-- The integer `k - 126`, as a word. -/
theorem toInt_sub : ∀ k : Fin 254, (IntOp.subi (BitVec.ofNat 32 k.val) 126#32).toInt = (k.val : ℤ) - 126 := by decide +kernel

/-- If the field of `t` is `c`, the count is `c`, or 254 when `c` is 255. -/
theorem count_eq (t : EReal) (c : ℕ) (h : Within t c 1) : count t = BitVec.ofNat 32 (min c 254) := by
  obtain ⟨hw, hlo, hhi⟩ := h
  unfold count
  rw [IndicatorCount.fold_addi_setWidth_eq_card]
  congr 1
  have hset : (Finset.univ.filter fun k : Fin 254 =>
      Ideal.cmp .oge t (Ideal.exp2 (((IntOp.subi (BitVec.ofNat 32 k.val) 126#32).toInt : ℝ) : EReal)) = 1#1)
      = Finset.univ.filter fun k : Fin 254 => k.val < c := by
    refine Finset.filter_congr fun k _ => ?_
    have hk : k.val < 254 := k.isLt
    rw [toInt_sub, exp2_int, show ((k.val : ℤ) - 126) = ((k.val + 1 : ℕ) : ℤ) - 127 by push_cast; ring,
      ← power_mid (k.val + 1) (by omega) (by omega)]
    show BitVec.ofBool (decide (power (k.val + 1) ≤ t)) = 1#1 ↔ _
    have hiff : power (k.val + 1) ≤ t ↔ k.val < c := by
      constructor
      · intro hle
        by_contra hn
        rcases hhi with hhi | hhi
        · omega
        · exact absurd (hle.trans_lt hhi) (not_lt.mpr (power_le (c + 1) (k.val + 1) (by omega) (by omega)))
      · intro hlt
        exact (power_le (k.val + 1) c (by omega) (by omega)).trans hlo
    by_cases hp : power (k.val + 1) ≤ t
    · simp [hp, hiff.mp hp]
    · have hn : ¬ k.val < c := fun hc => hp (hiff.mpr hc)
      simp only [hp, hn, decide_false]
      decide
  rw [hset, Fin.card_filter_val_lt]
  exact min_comm _ _

/-- The exponent as the kernel computes it from the row's largest value `a` and the quotient `t`. -/
def expKernel (a t : EReal) : BitVec 32 :=
  Scalar.select (Ideal.cmp .oeq a (Ideal.ofBits .f32 0x00000000#32)) 0#32
    (Scalar.select (IntOp.ori (IntOp.cmpi .eq (search t) 0#32) (IntOp.cmpi .eq (search t) 255#32)) 0#32 (IntOp.subi (search t) 126#32))

/-- The exponent as the reference computes it. -/
def expReference (a t : EReal) : BitVec 32 :=
  Scalar.select (Ideal.cmp .oeq a (Ideal.ofBits .f32 0x00000000#32)) 0#32
    (Scalar.select (IntOp.ori (IntOp.cmpi .eq (count t) 0#32) (Ideal.cmp .oeq t (Ideal.ofBits .f32 0x7F800000#32))) 0#32
      (IntOp.subi (count t) 126#32))

/-- Which fields the kernel turns into exponent 0. -/
theorem guard_facts : ∀ c : Fin 256,
    IntOp.ori (IntOp.cmpi .eq (BitVec.ofNat 32 c.val) 0#32) (IntOp.cmpi .eq (BitVec.ofNat 32 c.val) 255#32)
      = BitVec.ofBool (decide (c.val = 0 ∨ c.val = 255))
    ∧ IntOp.cmpi .eq (BitVec.ofNat 32 (min c.val 254)) 0#32 = BitVec.ofBool (decide (c.val = 0)) := by
  decide +kernel

/-- For a quotient that is not negative the two exponents agree, and they lie in the range of `pow2_eq`. -/
theorem expKernel_eq (a t : EReal) (ht : 0 ≤ t) :
    expKernel a t = expReference a t ∧ ∃ c, 1 ≤ c ∧ c ≤ 254 ∧ expReference a t = IntOp.subi (BitVec.ofNat 32 c) 126#32 := by
  obtain ⟨c, hs, hin⟩ := search_within t ht
  have hcnt := count_eq t c hin
  obtain ⟨hw, hlo, hhi⟩ := hin
  have zero126 : (0#32 : BitVec 32) = IntOp.subi (BitVec.ofNat 32 126) 126#32 := by decide
  obtain ⟨g1, g2⟩ := guard_facts ⟨c, by omega⟩
  dsimp only at g1 g2
  unfold expKernel expReference
  rw [hs, hcnt, g1, g2, ofBits_inf, show Ideal.cmp .oeq t ⊤ = BitVec.ofBool (decide (t = ⊤)) from rfl]
  by_cases ha : Ideal.cmp .oeq a (Ideal.ofBits .f32 0x00000000#32) = 1
  · simp only [Scalar.select, ha, if_true]
    exact ⟨trivial, 126, by omega, by omega, zero126⟩
  · simp only [Scalar.select, ha, if_false]
    have htop : t = ⊤ ↔ c = 255 := by
      constructor
      · rintro rfl
        rcases hhi with h | h
        · omega
        · exact absurd h not_top_lt
      · rintro rfl
        rw [power_top] at hlo
        exact top_le_iff.mp hlo
    by_cases hg : c = 0 ∨ c = 255
    · have e1 : BitVec.ofBool (decide (c = 0 ∨ c = 255)) = 1#1 := by simp [hg]
      have e2 : IntOp.ori (BitVec.ofBool (decide (c = 0))) (BitVec.ofBool (decide (t = ⊤))) = 1#1 := by
        rcases hg with h | h
        · have hn : ¬ t = ⊤ := fun hh => absurd (htop.mp hh) (by omega)
          simp only [h, hn, decide_true, decide_false]
          decide
        · have hn : ¬ c = 0 := by omega
          simp only [htop.mpr h, hn, decide_true, decide_false]
          decide
      rw [e1, e2]
      exact ⟨rfl, 126, by omega, by omega, zero126⟩
    · have h0 : ¬ c = 0 := fun h => hg (Or.inl h)
      have h5 : ¬ t = ⊤ := fun h => hg (Or.inr (htop.mp h))
      have e1 : BitVec.ofBool (decide (c = 0 ∨ c = 255)) = 0#1 := by simp only [hg, decide_false]; decide
      have e2 : IntOp.ori (BitVec.ofBool (decide (c = 0))) (BitVec.ofBool (decide (t = ⊤))) = 0#1 := by
        simp only [h0, h5, decide_false]
        decide
      have hm : min c 254 = c := by omega
      rw [e1, e2, hm]
      exact ⟨rfl, c, by omega, by omega, rfl⟩

end Cert.Quantise

end
-- ==== Proof.Row.lean ====
/- What one row of the problem is, over the extended reals: the row of scaled products, its largest magnitude, the quotient by the
   largest code, the exponent, the scale and the codes. The kernel's spelling of exponent and scale is then the reference's. -/
module

public import proofs.«01_k».proof.Proof.Exponent

@[expose] public section

set_option maxRecDepth 16384

noncomputable section

namespace Cert.Quantise

open Idealize.ShloMosaic

/-- One row of `y`: the products of the row `x` with every row of the weights, times the row's scale, times the weights' scales. -/
def row (x : Fin 4096 → EReal) (s : EReal) (w : Fin 2304 → Fin 4096 → EReal) (ws : Fin 2304 → EReal) : Fin 2304 → EReal :=
  fun j => (∑ k : Fin 4096, x k * w j k) * s * ws j

/-- The largest magnitude of a row. -/
def largest (y : Fin 2304 → EReal) : EReal :=
  Finset.fold max (Ideal.ofBits .f32 0xFF800000#32) (fun j => max (y j) (-(y j))) Finset.univ

/-- The largest magnitude times `1 / 448`. -/
def quotient (y : Fin 2304 → EReal) : EReal := largest y * Ideal.ofBits .f32 0x3B124925#32

/-- The exponent of the row's scale. -/
def exponent (y : Fin 2304 → EReal) : BitVec 32 := expReference (largest y) (quotient y)

/-- The row's scale. -/
def scale (y : Fin 2304 → EReal) : EReal := twoTo (exponent y)

/-- The row's codes: the row times the inverse of the scale, kept in -448 … 448. -/
def code (y : Fin 2304 → EReal) (j : Fin 2304) : EReal :=
  min (Ideal.ofBits .f32 0x43E00000#32) (max (Ideal.ofBits .f32 0xC3E00000#32) (y j * twoTo (IntOp.subi 0#32 (exponent y))))

/-- The largest magnitude is not negative: it is at least the first entry's, or its negative's. -/
theorem largest_nonneg (y : Fin 2304 → EReal) : 0 ≤ largest y := by
  have h : max (y 0) (-(y 0)) ≤ largest y := by
    unfold largest
    rw [Finset.le_fold_max]
    exact Or.inr ⟨0, Finset.mem_univ _, le_rfl⟩
  refine le_trans ?_ h
  rcases le_total 0 (y 0) with h0 | h0
  · exact h0.trans (le_max_left _ _)
  · exact (EReal.neg_nonneg.mpr h0).trans (le_max_right _ _)

/-- The factor `1 / 448` is not negative. -/
theorem factor_nonneg : 0 ≤ Ideal.ofBits .f32 0x3B124925#32 := by
  have h : Ideal.ofBits .f32 0x3B124925#32 = (((1 : ℝ) * ((2 ^ 23 + 1198373 : ℕ) : ℝ) * (2 : ℝ) ^ ((118 : ℤ) - 127 - 23) : ℝ) : EReal) := by
    simp [Ideal.ofBits, Ideal.ieee]
  rw [h]
  exact_mod_cast (by positivity : (0 : ℝ) ≤ 1 * ((2 ^ 23 + 1198373 : ℕ) : ℝ) * (2 : ℝ) ^ ((118 : ℤ) - 127 - 23))

/-- So the quotient is not negative. -/
theorem quotient_nonneg (y : Fin 2304 → EReal) : 0 ≤ quotient y := mul_nonneg (largest_nonneg y) factor_nonneg

/-- and is its own magnitude, which is what the kernel searches. -/
theorem abs_quotient (y : Fin 2304 → EReal) : max (quotient y) (-(quotient y)) = quotient y :=
  max_eq_left ((EReal.neg_le_neg_iff.mpr (quotient_nonneg y)).trans (by rw [neg_zero]; exact quotient_nonneg y))

/-- The kernel's exponent of a row. -/
theorem expKernel_row (y : Fin 2304 → EReal) : expKernel (largest y) (max (quotient y) (-(quotient y))) = exponent y := by
  rw [abs_quotient]
  exact (expKernel_eq _ _ (quotient_nonneg y)).1

/-- The kernel's scale of a row. -/
theorem pow2_row (y : Fin 2304 → EReal) : pow2 (exponent y) = scale y := by
  obtain ⟨c, h0, h1, he⟩ := (expKernel_eq (largest y) (quotient y) (quotient_nonneg y)).2
  unfold scale exponent
  rw [he]
  exact pow2_eq c h0 h1

/-- The kernel's inverse of the scale of a row. -/
theorem pow2_neg_row (y : Fin 2304 → EReal) : pow2 (IntOp.subi 0#32 (exponent y)) = twoTo (IntOp.subi 0#32 (exponent y)) := by
  obtain ⟨c, h0, h1, he⟩ := (expKernel_eq (largest y) (quotient y) (quotient_nonneg y)).2
  unfold exponent
  rw [he]
  exact pow2_neg_eq c h0 h1

end Cert.Quantise

end
-- ==== Proof.KernelBlock.lean ====
/- What the kernel's body computes from one block of 512 rows, read at an index: the products of the block's row are `row`, the
   stored scale is `scale` of that row and the stored codes are `code` of it. -/
module

public import proofs.«01_k».proof.Proof.Row
public import proofs.«01_k».proof.Proof.Gen.KernelIdeal.Skeleton

@[expose] public section

set_option maxRecDepth 16384

noncomputable section

namespace Cert.KernelIdeal.Block

open Cert.KernelIdeal Cert.KernelIdeal.Gen Cert.Quantise
open Idealize.ShloMosaic Idealize.ShloMosaic.TcCoe Idealize.SL.Sem

/-- Row `i` of the block's scaled products. -/
def rowOf (x : Vec Ideal S512x4096 .fp8e4m3) (w : Vec Ideal S2304x4096 .fp8e4m3) (xs : Vec Ideal S512x1 .f32)
    (ws : Vec Ideal S1x2304 .f32) (i : Fin 512) : Fin 2304 → EReal :=
  row (fun k => x (ix2 i k)) (xs (ix2 i 0)) (fun j k => w (ix2 j k)) (fun j => ws (ix2 0 j))

variable (x : Vec Ideal S512x4096 .fp8e4m3) (w : Vec Ideal S2304x4096 .fp8e4m3) (xs : Vec Ideal S512x1 .f32) (ws : Vec Ideal S1x2304 .f32)

/-- The block's scaled products. -/
theorem products_apply (y : S512x2304.Idx) : k0_pay4 x w xs ws y = rowOf x w xs ws (y 0) (y 1) := by
  unfold rowOf row
  pointwise [k0_pay4]

/-- The largest magnitude of each row. -/
theorem largest_apply (y : S512x1.Idx) : k0_pay5 x w xs ws y = largest (rowOf x w xs ws (y 0)) := by
  unfold largest
  pointwise [k0_pay5]
  refine Finset.fold_congr fun j _ => ?_
  rw [products_apply]
  rfl

/-- A column times the factor, and its magnitude, at an index. -/
theorem magnitude_apply (a : FVec Ideal S512x1 .f32) (y : S512x1.Idx) :
    absf (mulf a (broadcast S512x1 (Scalar.ofBits .f32 0x3B124925#32))) y
      = max (a y * Ideal.ofBits .f32 0x3B124925#32) (-(a y * Ideal.ofBits .f32 0x3B124925#32)) := rfl

/-- The magnitude of the quotient. -/
theorem quotient_apply (y : S512x1.Idx) : k0_pay6 x w xs ws y
    = max (quotient (rowOf x w xs ws (y 0))) (-(quotient (rowOf x w xs ws (y 0)))) := by
  have h : k0_pay6 x w xs ws = absf (mulf (k0_pay5 x w xs ws) (broadcast S512x1 (Scalar.ofBits .f32 0x3B124925#32))) := rfl
  rw [h, magnitude_apply, largest_apply]
  rfl

/-- One step of the binary search, on a whole column of quotients. -/
def stepV (t : FVec Ideal S512x1 .f32) (bit : BitVec 32) (field : IVec S512x1 32) : IVec S512x1 32 :=
  select (cmpf .oge t (bitcastToFloat .f32 (shli (addi field (broadcast S512x1 bit)) (broadcast S512x1 23#32))))
    (addi field (broadcast S512x1 bit)) field

theorem stepV_apply (t : FVec Ideal S512x1 .f32) (bit : BitVec 32) (field : IVec S512x1 32) (y : S512x1.Idx) :
    stepV t bit field y = step (t y) bit (field y) := rfl

/-- The whole search, on a column. -/
def searchV (t : FVec Ideal S512x1 .f32) : IVec S512x1 32 :=
  stepV t 1#32 (stepV t 2#32 (stepV t 4#32 (stepV t 8#32 (stepV t 16#32
    (stepV t 32#32 (stepV t 64#32 (stepV t 128#32 (broadcast S512x1 0#32))))))))

theorem searchV_apply (t : FVec Ideal S512x1 .f32) (y : S512x1.Idx) : searchV t y = search (t y) := by
  unfold searchV search
  rw [stepV_apply, stepV_apply, stepV_apply, stepV_apply, stepV_apply, stepV_apply, stepV_apply, stepV_apply]
  rfl

/-- The exponents of a column, from the fields. -/
def fieldsV (f : IVec S512x1 32) : IVec S512x1 32 :=
  select (ori (cmpi .eq f (broadcast S512x1 0#32)) (cmpi .eq f (broadcast S512x1 255#32))) (broadcast S512x1 0#32)
    (subi f (broadcast S512x1 126#32))

/-- The body's first three steps. -/
theorem search_head : k0_pay7 x w xs ws
    = stepV (k0_pay6 x w xs ws) 32#32 (stepV (k0_pay6 x w xs ws) 64#32 (stepV (k0_pay6 x w xs ws) 128#32 (broadcast S512x1 0#32))) := rfl

/-- The body's other five steps, and the exponent from the field. -/
theorem search_tail (t : FVec Ideal S512x1 .f32) (field : IVec S512x1 32) : k0_pay8 t field 16#32
    = fieldsV (stepV t 1#32 (stepV t 2#32 (stepV t 4#32 (stepV t 8#32 (stepV t 16#32 field))))) := rfl

/-- The exponent at an index, from the column of largest magnitudes and the column of quotients. -/
theorem fields_apply (a t : FVec Ideal S512x1 .f32) (y : S512x1.Idx) :
    k0_pay1 (fieldsV (searchV t)) (k0_pay9 a) y = expKernel (a y) (t y) := by
  unfold expKernel
  rw [← searchV_apply]
  generalize searchV t = f
  rfl

/-- The exponent of each row, the row of zeros set apart. -/
theorem exponent_apply (y : S512x1.Idx) :
    k0_pay1 (k0_pay8 (k0_pay6 x w xs ws) (k0_pay7 x w xs ws) 16#32) (k0_pay9 (k0_pay5 x w xs ws)) y
      = exponent (rowOf x w xs ws (y 0)) := by
  have h : k0_pay8 (k0_pay6 x w xs ws) (k0_pay7 x w xs ws) 16#32 = fieldsV (searchV (k0_pay6 x w xs ws)) := by
    rw [search_tail, search_head, searchV]
  rw [h, fields_apply, quotient_apply, largest_apply]
  exact expKernel_row _

/-- The stored scale. -/
theorem scale_apply (e : IVec S512x1 32) (z : IVec S512x1 1) (y : S512x1.Idx) : k0_pay2 (F := Ideal) e z y = pow2 (k0_pay1 e z y) := rfl

/-- The stored codes. -/
theorem code_apply (p : FVec Ideal S512x2304 .f32) (e : IVec S512x1 32) (z : IVec S512x1 1) (y : S512x2304.Idx) :
    k0_pay3 p e z y = min (Ideal.ofBits .f32 0x43E00000#32)
      (max (Ideal.ofBits .f32 0xC3E00000#32) (p y * pow2 (IntOp.subi 0#32 (k0_pay1 e z (ix2 (y 0) 0))))) := by
  unfold pow2 fieldWord
  pointwise [k0_pay3, k0_pay1]

end Cert.KernelIdeal.Block

end
-- ==== Proof.KernelArray.lean ====
/- The kernel's two result arrays after the run: row `i` of the scales is the scale of row `i` of the problem, row `i` of the codes its
   codes. Each of the 16 points writes its own block of 512 rows, and the blocks tile the arrays. -/
module

public import proofs.«01_k».proof.Proof.KernelBlock
public import proofs.«01_k».proof.Proof.Gen.KernelIdeal.Frame

@[expose] public section

set_option maxRecDepth 16384

noncomputable section

namespace Cert.KernelIdeal.Block

open Cert.KernelIdeal Cert.KernelIdeal.Gen Cert.Quantise
open Idealize.ShloMosaic Idealize.ShloMosaic.TcCoe Idealize.SL.Sem
open Idealize.ShloMosaic.Pipeline (Dat)

variable (m : (ℓ : Loc nD τ sig) → Buf (Elt Ideal) ℓ)

/-- Row `i` of the scaled products of whole arrays. -/
def arrayRow (X : Vec Ideal S8192x4096 .fp8e4m3) (W : Vec Ideal S2304x4096 .fp8e4m3) (XS : Vec Ideal S8192x1 .f32)
    (WS : Vec Ideal S1x2304 .f32) (i : Fin 8192) : Fin 2304 → EReal :=
  row (fun k => X (ix2 i k)) (XS (ix2 i 0)) (fun j k => W (ix2 j k)) (fun j => WS (ix2 0 j))

/-- Where each window's block sits, at every point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Row `i` of the block of `x` at point `t` is row `512 t + i` of `x`. -/
theorem block_x (c : Dev nD) (t : Fin cfg0.N) (i : Fin 512) (r : Fin 8192) (hr : r.val = t.val * 512 + i.val) (k : Fin 4096) :
    (show Vec Ideal S512x4096 .fp8e4m3 from iblk m c 0 t) (ix2 i k) = (show Vec Ideal S8192x4096 .fp8e4m3 from V m c main_v0) (ix2 r k) := by
  blk_ext [iblk, idx t]

/-- The same of the scales of the rows. -/
theorem block_xs (c : Dev nD) (t : Fin cfg0.N) (i : Fin 512) (r : Fin 8192) (hr : r.val = t.val * 512 + i.val) :
    (show Vec Ideal S512x1 .f32 from iblk m c 1 t) (ix2 i 0) = (show Vec Ideal S8192x1 .f32 from V m c main_v1) (ix2 r 0) := by
  blk_ext [iblk, idx t]

/-- The block of the weights is the weights. -/
theorem block_w (c : Dev nD) (t : Fin cfg0.N) (j : Fin 2304) (k : Fin 4096) :
    (show Vec Ideal S2304x4096 .fp8e4m3 from iblk m c 2 t) (ix2 j k) = (show Vec Ideal S2304x4096 .fp8e4m3 from V m c main_arg2) (ix2 j k) := by
  blk_ext [iblk, idx t]

/-- and the block of their scales is their scales. -/
theorem block_ws (c : Dev nD) (t : Fin cfg0.N) (j : Fin 2304) :
    (show Vec Ideal S1x2304 .f32 from iblk m c 3 t) (ix2 0 j) = (show Vec Ideal S1x2304 .f32 from V m c main_v2) (ix2 0 j) := by
  blk_ext [iblk, idx t]

/-- Row `i` of the block at point `t` is row `512 t + i` of the arrays. -/
theorem rowOf_block (c : Dev nD) (t : Fin cfg0.N) (i : Fin 512) (r : Fin 8192) (hr : r.val = t.val * 512 + i.val) :
    rowOf (iblk m c 0 t) (iblk m c 2 t) (iblk m c 1 t) (iblk m c 3 t) i
      = arrayRow (V m c main_v0) (V m c main_arg2) (V m c main_v1) (V m c main_v2) r := by
  have h0 := block_x m c t i r hr
  have h1 := block_xs m c t i r hr
  have h2 := block_w m c t
  have h3 := block_ws m c t
  unfold rowOf arrayRow
  dsimp only at h0 h1 h2 h3
  rw [h1, funext h0, funext fun j => funext (h2 j), funext h3]

/-- The scales point `t` stores. -/
theorem point4 (c : Dev nD) (t : Fin cfg0.N) (y : S512x1.Idx) (r : Fin 8192) (hr : r.val = t.val * 512 + (y 0).val) :
    k0_pay2 (F := Ideal) (k0_pay8 (k0_pay6 (iblk m c 0 t) (iblk m c 2 t) (iblk m c 1 t) (iblk m c 3 t)) (k0_pay7 (iblk m c 0 t) (iblk m c 2 t) (iblk m c 1 t) (iblk m c 3 t)) 16#32)
      (k0_pay9 (k0_pay5 (iblk m c 0 t) (iblk m c 2 t) (iblk m c 1 t) (iblk m c 3 t))) y
    = scale (arrayRow (V m c main_v0) (V m c main_arg2) (V m c main_v1) (V m c main_v2) r) := by
  rw [scale_apply, exponent_apply, pow2_row, rowOf_block m c t (y 0) r hr]

/-- The codes point `t` stores. -/
theorem point5 (c : Dev nD) (t : Fin cfg0.N) (y : S512x2304.Idx) (r : Fin 8192) (hr : r.val = t.val * 512 + (y 0).val) (j : Fin 2304) (hj : j.val = (y 1).val) :
    k0_pay3 (F := Ideal) (k0_pay4 (iblk m c 0 t) (iblk m c 2 t) (iblk m c 1 t) (iblk m c 3 t))
      (k0_pay8 (k0_pay6 (iblk m c 0 t) (iblk m c 2 t) (iblk m c 1 t) (iblk m c 3 t)) (k0_pay7 (iblk m c 0 t) (iblk m c 2 t) (iblk m c 1 t) (iblk m c 3 t)) 16#32)
      (k0_pay9 (k0_pay5 (iblk m c 0 t) (iblk m c 2 t) (iblk m c 1 t) (iblk m c 3 t))) y
    = code (arrayRow (V m c main_v0) (V m c main_arg2) (V m c main_v1) (V m c main_v2) r) j := by
  have e := exponent_apply (iblk m c 0 t) (iblk m c 2 t) (iblk m c 1 t) (iblk m c 3 t) (ix2 (y 0) 0)
  have hy : (y 1 : Fin 2304) = j := Fin.ext hj.symm
  rw [code_apply, e, products_apply, pow2_neg_row]
  unfold code
  rw [← rowOf_block m c t (y 0) r hr, ← hy]
  rfl

/-- The scales. -/
theorem final4 (c : Dev nD) : (dats m 0 c).arrAt 4 (cfgs 0).N
    = fun i => scale (arrayRow (V m c main_v0) (V m c main_arg2) (V m c main_v1) (V m c main_v2) (i 0)) := by
  refine (dats m 0 c).arrAt_eq_of_covers 4 _ (by decide +kernel) fun t _ y => ?_
  blk_simp
  rw [after0_4]
  frame_out
  unfold k0_pay10 k0_pay11
  frame_out
  refine point4 m c t y _ ?_
  blk_simp [idx t]

/-- The codes. -/
theorem final5 (c : Dev nD) : (dats m 0 c).arrAt 5 (cfgs 0).N
    = fun i => code (arrayRow (V m c main_v0) (V m c main_arg2) (V m c main_v1) (V m c main_v2) (i 0)) (i 1) := by
  refine (dats m 0 c).arrAt_eq_of_covers 5 _ (by decide +kernel) fun t _ y => ?_
  blk_simp
  rw [after0_5]
  frame_out
  unfold k0_pay10 k0_pay11
  frame_out
  refine point5 m c t y _ ?_ _ ?_
  · blk_simp [idx t]
  · blk_simp [idx t]

end Cert.KernelIdeal.Block

end
-- ==== Proof.ReferenceArray.lean ====
/- What the reference computes, read at an index, and its two result arrays after the run: its one point's blocks are the whole arrays. -/
module

public import proofs.«01_k».proof.Proof.Row
public import proofs.«01_k».proof.Proof.Gen.ReferenceIdeal.Frame

@[expose] public section

set_option maxRecDepth 16384

noncomputable section

namespace Cert.ReferenceIdeal.Whole

open Cert.ReferenceIdeal Cert.ReferenceIdeal.Gen Cert.Quantise
open Idealize.ShloMosaic Idealize.ShloMosaic.TcCoe Idealize.SL.Sem
open Idealize.ShloMosaic.Pipeline (Dat)

/-- Row `i` of the scaled products. -/
def arrayRow (x : Vec Ideal S8192x4096 .fp8e4m3) (w : Vec Ideal S2304x4096 .fp8e4m3) (xs : Vec Ideal S8192x1 .f32)
    (ws : Vec Ideal S1x2304 .f32) (i : Fin 8192) : Fin 2304 → EReal :=
  row (fun k => x (ix2 i k)) (xs (ix2 i 0)) (fun j k => w (ix2 j k)) (fun j => ws (ix2 0 j))

variable (x : Vec Ideal S8192x4096 .fp8e4m3) (w : Vec Ideal S2304x4096 .fp8e4m3) (xs : Vec Ideal S8192x1 .f32) (ws : Vec Ideal S1x2304 .f32)

/-- The scaled products. -/
theorem products_apply (y : S8192x2304.Idx) : k0_pay3 x w xs ws y = arrayRow x w xs ws (y 0) (y 1) := by
  unfold arrayRow row
  pointwise [k0_pay3]

/-- The column of largest magnitudes, from the products. -/
def largestV (p : FVec Ideal S8192x2304 .f32) : FVec Ideal S8192x1 .f32 :=
  shapeCast S8192x1 (multiReduction .maximumf [1] S8192 (absf p) 0xFF800000#32 reduces_S8192x2304_S8192 (.inl rfl) rfl) shapeCasts_S8192_S8192x1

theorem largestV_apply (y : S8192x1.Idx) : largestV (k0_pay3 x w xs ws) y = largest (arrayRow x w xs ws (y 0)) := by
  unfold largest
  pointwise [largestV]
  refine Finset.fold_congr fun j _ => ?_
  rw [products_apply]
  rfl

/-- The column of counts, from the quotients. -/
def countV (t : FVec Ideal S8192x1 .f32) : IVec S8192x1 32 :=
  shapeCast S8192x1 (multiReductionI .add [1] S8192 (extui 32 (cmpf .oge (broadcastTo S8192x254 t broadcasts_S8192x1_S8192x254)
    (broadcastTo S8192x254 (exp2 (sitofp .f32 (subi (iota .tc S1x254 32 [1] iota_S1x254_d1_w32) (broadcast S1x254 126#32)))) broadcasts_S1x254_S8192x254))
    natLt_1_32) 0#32 reduces_S8192x254_S8192 rfl) shapeCasts_S8192_S8192x1

theorem countV_apply (t : FVec Ideal S8192x1 .f32) (y : S8192x1.Idx) : countV t y = Cert.Quantise.count (t y) := by
  have hy : (ix2 (y 0) 0 : S8192x1.Idx) = y := by blk_ext
  refine Eq.trans ?_ (congrArg (fun j => Cert.Quantise.count (t j)) hy)
  unfold Cert.Quantise.count
  pointwise [countV]
  rfl

/-- The column of exponents, from the largest magnitudes, the quotients and the counts. -/
def exponentV (a t : FVec Ideal S8192x1 .f32) (n : IVec S8192x1 32) : IVec S8192x1 32 :=
  select (cmpf .oeq a (broadcast S8192x1 (Scalar.ofBits .f32 0x00000000#32))) (broadcast S8192x1 0#32)
    (select (ori (cmpi .eq n (broadcast S8192x1 0#32)) (cmpf .oeq t (broadcast S8192x1 (Scalar.ofBits .f32 0x7F800000#32))))
      (broadcast S8192x1 0#32) (subi n (broadcast S8192x1 126#32)))

theorem exponentV_apply (a t : FVec Ideal S8192x1 .f32) (y : S8192x1.Idx) : exponentV a t (countV t) y = expReference (a y) (t y) := by
  unfold expReference
  rw [← countV_apply]
  generalize countV t = n
  rfl

/-- The factor, on a column. -/
def quotientV (a : FVec Ideal S8192x1 .f32) : FVec Ideal S8192x1 .f32 := mulf a (broadcast S8192x1 (Scalar.ofBits .f32 0x3B124925#32))

theorem quotientV_apply (a : FVec Ideal S8192x1 .f32) (y : S8192x1.Idx) : quotientV a y = a y * Ideal.ofBits .f32 0x3B124925#32 := rfl

/-- The body's exponents are these. -/
theorem exponent_eq : k0_pay4 x w xs ws = exponentV (largestV (k0_pay3 x w xs ws)) (quotientV (largestV (k0_pay3 x w xs ws)))
    (countV (quotientV (largestV (k0_pay3 x w xs ws)))) := rfl

/-- The exponent of each row. -/
theorem exponent_apply (y : S8192x1.Idx) : k0_pay4 x w xs ws y = exponent (arrayRow x w xs ws (y 0)) := by
  rw [exponent_eq, exponentV_apply, quotientV_apply, largestV_apply]
  rfl

/-- The stored scale. -/
theorem scale_apply (e : IVec S8192x1 32) (y : S8192x1.Idx) : k0_pay1 (F := Ideal) e y = twoTo (e y) := rfl

/-- The stored codes. -/
theorem code_apply (p : FVec Ideal S8192x2304 .f32) (e : IVec S8192x1 32) (y : S8192x2304.Idx) :
    k0_pay2 p e y = min (Ideal.ofBits .f32 0x43E00000#32)
      (max (Ideal.ofBits .f32 0xC3E00000#32) (p y * twoTo (IntOp.subi 0#32 (e (ix2 (y 0) 0))))) := by
  unfold twoTo
  pointwise [k0_pay2]
  rfl

variable (m : (ℓ : Loc nD τ sig) → Buf (Elt Ideal) ℓ)

/-- Every window's one block starts at the array's origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem block_x (c : Dev nD) (t : Fin cfg0.N) (i : Fin 8192) (k : Fin 4096) :
    (show Vec Ideal S8192x4096 .fp8e4m3 from iblk m c 0 t) (ix2 i k) = (show Vec Ideal S8192x4096 .fp8e4m3 from V m c main_v0) (ix2 i k) := by
  blk_ext [iblk, idx t]

theorem block_xs (c : Dev nD) (t : Fin cfg0.N) (i : Fin 8192) :
    (show Vec Ideal S8192x1 .f32 from iblk m c 1 t) (ix2 i 0) = (show Vec Ideal S8192x1 .f32 from V m c main_v1) (ix2 i 0) := by
  blk_ext [iblk, idx t]

theorem block_w (c : Dev nD) (t : Fin cfg0.N) (j : Fin 2304) (k : Fin 4096) :
    (show Vec Ideal S2304x4096 .fp8e4m3 from iblk m c 2 t) (ix2 j k) = (show Vec Ideal S2304x4096 .fp8e4m3 from V m c main_arg2) (ix2 j k) := by
  blk_ext [iblk, idx t]

theorem block_ws (c : Dev nD) (t : Fin cfg0.N) (j : Fin 2304) :
    (show Vec Ideal S1x2304 .f32 from iblk m c 3 t) (ix2 0 j) = (show Vec Ideal S1x2304 .f32 from V m c main_v2) (ix2 0 j) := by
  blk_ext [iblk, idx t]

/-- The rows of the blocks are the rows of the arrays. -/
theorem arrayRow_block (c : Dev nD) (t : Fin cfg0.N) (i : Fin 8192) :
    arrayRow (iblk m c 0 t) (iblk m c 2 t) (iblk m c 1 t) (iblk m c 3 t) i
      = arrayRow (V m c main_v0) (V m c main_arg2) (V m c main_v1) (V m c main_v2) i := by
  have h0 := block_x m c t i
  have h1 := block_xs m c t i
  have h2 := block_w m c t
  have h3 := block_ws m c t
  unfold arrayRow
  dsimp only at h0 h1 h2 h3
  rw [h1, funext h0, funext fun j => funext (h2 j), funext h3]

/-- The scales the point stores. -/
theorem point4 (c : Dev nD) (t : Fin cfg0.N) (y : S8192x1.Idx) (r : Fin 8192) (hr : r.val = (y 0).val) :
    k0_pay1 (F := Ideal) (k0_pay4 (iblk m c 0 t) (iblk m c 2 t) (iblk m c 1 t) (iblk m c 3 t)) y
    = scale (arrayRow (V m c main_v0) (V m c main_arg2) (V m c main_v1) (V m c main_v2) r) := by
  have hy : (y 0 : Fin 8192) = r := Fin.ext hr.symm
  rw [scale_apply, exponent_apply, ← hy, ← arrayRow_block m c t (y 0)]
  rfl

/-- The codes the point stores. -/
theorem point5 (c : Dev nD) (t : Fin cfg0.N) (y : S8192x2304.Idx) (r : Fin 8192) (hr : r.val = (y 0).val) (j : Fin 2304) (hj : j.val = (y 1).val) :
    k0_pay2 (F := Ideal) (k0_pay3 (iblk m c 0 t) (iblk m c 2 t) (iblk m c 1 t) (iblk m c 3 t))
      (k0_pay4 (iblk m c 0 t) (iblk m c 2 t) (iblk m c 1 t) (iblk m c 3 t)) y
    = code (arrayRow (V m c main_v0) (V m c main_arg2) (V m c main_v1) (V m c main_v2) r) j := by
  have e := exponent_apply (iblk m c 0 t) (iblk m c 2 t) (iblk m c 1 t) (iblk m c 3 t) (ix2 (y 0) 0)
  have hy0 : (y 0 : Fin 8192) = r := Fin.ext hr.symm
  have hy : (y 1 : Fin 2304) = j := Fin.ext hj.symm
  rw [code_apply, e, products_apply]
  unfold code
  rw [← hy0, ← arrayRow_block m c t (y 0), ← hy]
  rfl

/-- The scales. -/
theorem final4 (c : Dev nD) : (dats m 0 c).arrAt 4 (cfgs 0).N
    = fun i => scale (arrayRow (V m c main_v0) (V m c main_arg2) (V m c main_v1) (V m c main_v2) (i 0)) := by
  refine (dats m 0 c).arrAt_eq_of_covers 4 _ (by decide +kernel) fun t _ y => ?_
  blk_simp
  rw [after0_4]
  frame_out
  unfold k0_pay5
  frame_out
  refine point4 m c t y _ ?_
  blk_simp [idx t]

/-- The codes. -/
theorem final5 (c : Dev nD) : (dats m 0 c).arrAt 5 (cfgs 0).N
    = fun i => code (arrayRow (V m c main_v0) (V m c main_arg2) (V m c main_v1) (V m c main_v2) (i 0)) (i 1) := by
  refine (dats m 0 c).arrAt_eq_of_covers 5 _ (by decide +kernel) fun t _ y => ?_
  blk_simp
  rw [after0_5]
  frame_out
  unfold k0_pay5
  frame_out
  refine point5 m c t y _ ?_ _ ?_ <;> blk_simp [idx t]

end Cert.ReferenceIdeal.Whole

end
-- ==== Proof.Equation.lean ====
/- The equation: from equal arguments the kernel and the reference leave the same scales and the same codes. -/
module

public import proofs.«01_k».proof.Defs
public import proofs.«01_k».proof.Proof.KernelArray
public import proofs.«01_k».proof.Proof.ReferenceArray
public import proofs.«01_k».proof.Proof.Gen.KernelIdeal.Value

@[expose] public section

set_option maxRecDepth 16384

noncomputable section

open Idealize.ShloMosaic Idealize.ShloMosaic.TcCoe Idealize.SL.Sem

namespace Cert.KernelIdeal.Block

open Cert.KernelIdeal Cert.KernelIdeal.Gen Cert.Quantise

variable (m : (ℓ : Loc nD τ sig) → Buf (Elt Ideal) ℓ)

/-- Row `i` of the scaled products, from the arguments. -/
def argRow (x : Vec Ideal S4x2048x4096 .fp8e4m3) (xs : Vec Ideal S4x2048x1 .f32) (w : Vec Ideal S2304x4096 .fp8e4m3)
    (ws : Vec Ideal S2304 .f32) : Fin 8192 → Fin 2304 → EReal :=
  arrayRow (shapeCast S8192x4096 x shapeCasts_S4x2048x4096_S8192x4096) w (shapeCast S8192x1 xs shapeCasts_S4x2048x1_S8192x1)
    (shapeCast S1x2304 ws shapeCasts_S2304_S1x2304)

/-- The rows the kernel works on are those. -/
theorem rows_eq (c : Dev nD) : arrayRow (V m c main_v0) (V m c main_arg2) (V m c main_v1) (V m c main_v2)
    = argRow (m ((c : Thread nD τ).loc main_arg0)) (m ((c : Thread nD τ).loc main_arg1)) (m ((c : Thread nD τ).loc main_arg2))
        (m ((c : Thread nD τ).loc main_arg3)) := by
  have h0 : V m c main_v0 = shapeCast S8192x4096 (m ((c : Thread nD τ).loc main_arg0)) shapeCasts_S4x2048x4096_S8192x4096 := by
    entry_read
    rfl
  have h1 : V m c main_v1 = shapeCast S8192x1 (m ((c : Thread nD τ).loc main_arg1)) shapeCasts_S4x2048x1_S8192x1 := by
    entry_read
    rfl
  have h2 : V m c main_v2 = shapeCast S1x2304 (m ((c : Thread nD τ).loc main_arg3)) shapeCasts_S2304_S1x2304 := by
    entry_read
    rfl
  rw [h0, h1, h2, V_main_arg2]
  rfl

end Cert.KernelIdeal.Block

namespace Cert.ReferenceIdeal.Whole

open Cert.ReferenceIdeal Cert.ReferenceIdeal.Gen Cert.Quantise

variable (m : (ℓ : Loc nD τ sig) → Buf (Elt Ideal) ℓ)

/-- The rows the reference works on are the same function of its arguments. -/
theorem rows_eq (c : Dev nD) : arrayRow (V m c main_v0) (V m c main_arg2) (V m c main_v1) (V m c main_v2)
    = Cert.KernelIdeal.Block.argRow (m ((c : Thread nD τ).loc main_arg0)) (m ((c : Thread nD τ).loc main_arg1))
        (m ((c : Thread nD τ).loc main_arg2)) (m ((c : Thread nD τ).loc main_arg3)) := by
  have h0 : V m c main_v0 = shapeCast S8192x4096 (m ((c : Thread nD τ).loc main_arg0)) shapeCasts_S4x2048x4096_S8192x4096 := by
    entry_read
    rfl
  have h1 : V m c main_v1 = shapeCast S8192x1 (m ((c : Thread nD τ).loc main_arg1)) shapeCasts_S4x2048x1_S8192x1 := by
    entry_read
    rfl
  have h2 : V m c main_v2 = shapeCast S1x2304 (m ((c : Thread nD τ).loc main_arg3)) shapeCasts_S2304_S1x2304 := by
    entry_read
    rfl
  rw [h0, h1, h2, V_main_arg2]
  rfl

end Cert.ReferenceIdeal.Whole

namespace Cert.Quantise

/-- The scales, from the arguments. -/
def scales (x : Vec Ideal Cert.KernelIdeal.S4x2048x4096 .fp8e4m3) (xs : Vec Ideal Cert.KernelIdeal.S4x2048x1 .f32)
    (w : Vec Ideal Cert.KernelIdeal.S2304x4096 .fp8e4m3) (ws : Vec Ideal Cert.KernelIdeal.S2304 .f32) : Vec Ideal Cert.KernelIdeal.S8192x1 .f32 :=
  fun i => scale (Cert.KernelIdeal.Block.argRow x xs w ws (i 0))

/-- The codes, from the arguments. -/
def codes (x : Vec Ideal Cert.KernelIdeal.S4x2048x4096 .fp8e4m3) (xs : Vec Ideal Cert.KernelIdeal.S4x2048x1 .f32)
    (w : Vec Ideal Cert.KernelIdeal.S2304x4096 .fp8e4m3) (ws : Vec Ideal Cert.KernelIdeal.S2304 .f32) : Vec Ideal Cert.KernelIdeal.S8192x2304 .fp8e4m3 :=
  fun i => code (Cert.KernelIdeal.Block.argRow x xs w ws (i 0)) (i 1)

/-- The kernel's run leaves them. -/
theorem kernel_run (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) Cert.KernelIdeal.main) ⟨m, fun _ => 0, g⟩ fun r => ∀ c : Dev Cert.KernelIdeal.nD,
      r.2.mem ((c : Thread Cert.KernelIdeal.nD Cert.KernelIdeal.τ).loc Cert.KernelIdeal.main_v3_0)
        = scales (m ((c : Thread Cert.KernelIdeal.nD Cert.KernelIdeal.τ).loc Cert.KernelIdeal.main_arg0)) (m ((c : Thread Cert.KernelIdeal.nD Cert.KernelIdeal.τ).loc Cert.KernelIdeal.main_arg1))
            (m ((c : Thread Cert.KernelIdeal.nD Cert.KernelIdeal.τ).loc Cert.KernelIdeal.main_arg2)) (m ((c : Thread Cert.KernelIdeal.nD Cert.KernelIdeal.τ).loc Cert.KernelIdeal.main_arg3))
      ∧ r.2.mem ((c : Thread Cert.KernelIdeal.nD Cert.KernelIdeal.τ).loc Cert.KernelIdeal.main_v3_1)
        = codes (m ((c : Thread Cert.KernelIdeal.nD Cert.KernelIdeal.τ).loc Cert.KernelIdeal.main_arg0)) (m ((c : Thread Cert.KernelIdeal.nD Cert.KernelIdeal.τ).loc Cert.KernelIdeal.main_arg1))
            (m ((c : Thread Cert.KernelIdeal.nD Cert.KernelIdeal.τ).loc Cert.KernelIdeal.main_arg2)) (m ((c : Thread Cert.KernelIdeal.nD Cert.KernelIdeal.τ).loc Cert.KernelIdeal.main_arg3))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  (θ_run Cert.KernelIdeal.defs _ _).mono (fun r h c => by
    obtain ⟨h4, h5, h⟩ := h c
    refine ⟨h4.trans ?_, h5.trans ?_, h⟩
    · refine (Cert.KernelIdeal.Block.final4 m c).trans ?_
      rw [Cert.KernelIdeal.Block.rows_eq]
      rfl
    · refine (Cert.KernelIdeal.Block.final5 m c).trans ?_
      rw [Cert.KernelIdeal.Block.rows_eq]
      rfl)
    (Cert.KernelIdeal.Value.run_blocks m g)

open Cert.ReferenceIdeal Cert.ReferenceIdeal.Gen in
/-- The reference's run leaves them too. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run Cert.ReferenceIdeal.defs (onTc (τ := Cert.ReferenceIdeal.τ) Cert.ReferenceIdeal.main) ⟨m, fun _ => 0, g⟩ fun r => ∀ c : Dev Cert.ReferenceIdeal.nD,
      r.2.mem ((c : Thread Cert.ReferenceIdeal.nD Cert.ReferenceIdeal.τ).loc Cert.ReferenceIdeal.main_v3_0)
        = scales (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
            (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3))
      ∧ r.2.mem ((c : Thread Cert.ReferenceIdeal.nD Cert.ReferenceIdeal.τ).loc Cert.ReferenceIdeal.main_v3_1)
        = codes (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
            (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3))
      ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
      ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3) :=
  (θ_run Cert.ReferenceIdeal.defs _ _).mono (fun r h c => by
    refine ⟨((h c).1 4).trans ?_, ((h c).1 5).trans ?_,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩
    · refine (Cert.ReferenceIdeal.Whole.final4 m c).trans ?_
      rw [Cert.ReferenceIdeal.Whole.rows_eq]
      rfl
    · refine (Cert.ReferenceIdeal.Whole.final5 m c).trans ?_
      rw [Cert.ReferenceIdeal.Whole.rows_eq]
      rfl)
    (Cert.ReferenceIdeal.Gen.run_main m g)

/-- From equal arguments both runs end, with the same scales and the same codes, and their arguments as they were. -/
theorem same_results : Cert.algebraic_KernelIdeal_ReferenceIdeal := by
  intro m g m' g' _ hargs
  refine ⟨_, _, kernel_run m g, ?_⟩
  refine (θ_run Cert.ReferenceIdeal.defs _ _).mono (fun r h c => ?_) (reference_run m' g')
  obtain ⟨h4, h5, h⟩ := h c
  obtain ⟨e0, e1, e2, e3⟩ := hargs c
  rw [e0, e1, e2, e3] at h4 h5
  exact ⟨h4, h5, h⟩

end Cert.Quantise

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Quantise.same_results⟩

end Cert.Proof

end
